-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_usual_rows [hPre_usual_rows : Cert.Pre_usual_rows.Facts] (m : (ℓ : Loc Cert.KernelIdeal.nD Cert.KernelIdeal.τ Cert.KernelIdeal.sig) → Buf (Elt Ideal) ℓ) : Prop :=
  ∀ c : Dev Cert.KernelIdeal.nD,
    (Cert.Pre_usual_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_usual_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_usual_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_usual_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.1 = (fun _ => 1#1)
    ∧ (Cert.Pre_usual_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_usual_rows [hPre_usual_rows : Cert.Pre_usual_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_usual_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_usual_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_usual_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_usual_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.1 = (fun _ => 1#1)
    ∧ (Cert.Pre_usual_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_usual_rows [hKernelIdeal : Cert.KernelIdeal.Facts] [hPre_usual_rows : Cert.Pre_usual_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_usual_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_usual_rows [hReferenceIdeal : Cert.ReferenceIdeal.Facts] [hPre_usual_rows : Cert.Pre_usual_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_usual_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_usual_rows [hKernelIdeal : Cert.KernelIdeal.Facts] [hReferenceIdeal : Cert.ReferenceIdeal.Facts] [hPre_usual_rows : Cert.Pre_usual_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_usual_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_usual_rows : Cert.Pre_usual_rows.Facts),
    quiescent_Kernel (hKernel := hKernel)
    ∧ quiescent_KernelIdeal (hKernelIdeal := hKernelIdeal)
    ∧ quiescent_KernelIdeal_pre_usual_rows (hKernelIdeal := hKernelIdeal) (hPre_usual_rows := hPre_usual_rows)
    ∧ quiescent_ReferenceIdeal (hReferenceIdeal := hReferenceIdeal)
    ∧ quiescent_ReferenceIdeal_pre_usual_rows (hReferenceIdeal := hReferenceIdeal) (hPre_usual_rows := hPre_usual_rows)
    ∧ preserves_Kernel_KernelIdeal
    ∧ algebraic_KernelIdeal_ReferenceIdeal_pre_usual_rows (hKernelIdeal := hKernelIdeal) (hReferenceIdeal := hReferenceIdeal) (hPre_usual_rows := hPre_usual_rows)
-- ==== Pre_usual_rows.lean ====
abbrev S1024x512 : Shape := ⟨2, ![1024, 512]⟩
abbrev S100000x512 : Shape := ⟨2, ![100000, 512]⟩
abbrev S100000 : Shape := ⟨1, ![100000]⟩
abbrev S_ : Shape := ⟨0, ![]⟩
abbrev S1024 : Shape := ⟨1, ![1024]⟩

class Facts : Prop where
  reducesTo_S1024x512_S1024_d1 : S1024x512.ReducesTo [1] S1024
  h_S_ : 0 < S_.numel
  reducesTo_S100000x512_S100000_d1 : S100000x512.ReducesTo [1] S100000
  bcast_S_S1024 : S_.BroadcastsInDim S1024 (![] : Fin 0 → Fin S1024.rank)
  bcast_S_S100000x512 : S_.BroadcastsInDim S100000x512 (![] : Fin 0 → Fin S100000x512.rank)
  bcast_S_S100000 : S_.BroadcastsInDim S100000 (![] : Fin 0 → Fin S100000.rank)

variable [Facts]

def fn {F : FTy → Type} [FloatOps F] (main_arg0 : FVec F S1024x512 .f32) (main_arg1 : FVec F S100000x512 .f32) (main_arg2 : IVec S100000 32) : IVec S1024 1 × IVec S100000x512 1 × IVec S100000 1 × IVec S100000 1 × IVec S100000 1 :=
  let main_v0 : FVec F S1024x512 .f32 := mulf main_arg0 main_arg0
  let main_cst : FVec F S_ .f32 := constant S_ .f32 0x00000000#32
  let main_v1 : FVec F S1024 .f32 := (fun x v => Host.reduceAdd x v reducesTo_S1024x512_S1024_d1 h_S_) main_v0 main_cst
  let main_v2 : FVec F S100000x512 .f32 := mulf main_arg1 main_arg1
  let main_cst_0 : FVec F S_ .f32 := constant S_ .f32 0x00000000#32
  let main_v3 : FVec F S100000 .f32 := (fun x v => Host.reduceAdd x v reducesTo_S100000x512_S100000_d1 h_S_) main_v2 main_cst_0
  let main_cst_1 : FVec F S_ .f32 := constant S_ .f32 0x00000000#32
  let main_v4 : FVec F S1024 .f32 := broadcastInDim S1024 ![] bcast_S_S1024 main_cst_1
  let main_v5 : IVec S1024 1 := cmpf .ogt main_v1 main_v4
  let main_v6 : FVec F S100000x512 .f32 := Host.absf main_arg1
  let main_cst_2 : FVec F S_ .f32 := constant S_ .f32 0x7F800000#32
  let main_v7 : FVec F S100000x512 .f32 := broadcastInDim S100000x512 ![] bcast_S_S100000x512 main_cst_2
  let main_v8 : IVec S100000x512 1 := cmpf .olt main_v6 main_v7
  let main_cst_3 : FVec F S_ .f32 := constant S_ .f32 0x0DA24260#32
  let main_v9 : FVec F S100000 .f32 := broadcastInDim S100000 ![] bcast_S_S100000 main_cst_3
  let main_v10 : IVec S100000 1 := cmpf .oge main_v3 main_v9
  let main_c : IVec S_ 32 := constantI S_ 32 0#32
  let main_v11 : IVec S100000 32 := broadcastInDim S100000 ![] bcast_S_S100000 main_c
  let main_v12 : IVec S100000 1 := cmpi .sge main_arg2 main_v11
  let main_c_4 : IVec S_ 32 := constantI S_ 32 10#32
  let main_v13 : IVec S100000 32 := broadcastInDim S100000 ![] bcast_S_S100000 main_c_4
  let main_v14 : IVec S100000 1 := cmpi .slt main_arg2 main_v13
  (main_v5, main_v8, main_v10, main_v12, main_v14)
-- ==== Kernel.lean ====
abbrev S1024x512 : Shape := ⟨2, ![1024, 512]⟩
abbrev S100000x512 : Shape := ⟨2, ![100000, 512]⟩
abbrev S100000 : Shape := ⟨1, ![100000]⟩
abbrev S_ : Shape := ⟨0, ![]⟩
abbrev S100352x512 : Shape := ⟨2, ![100352, 512]⟩
abbrev S1024x100352 : Shape := ⟨2, ![1024, 100352]⟩
abbrev S2048x512 : Shape := ⟨2, ![2048, 512]⟩
abbrev S1024x2048 : Shape := ⟨2, ![1024, 2048]⟩
abbrev S1024 : Shape := ⟨1, ![1024]⟩
abbrev S1024x1 : Shape := ⟨2, ![1024, 1]⟩
abbrev S2048 : Shape := ⟨1, ![2048]⟩
abbrev S2048x1 : Shape := ⟨2, ![2048, 1]⟩
abbrev S1024x75 : Shape := ⟨2, ![1024, 75]⟩
abbrev S1024x75x1 : Shape := ⟨3, ![1024, 75, 1]⟩
abbrev S1 : Shape := ⟨1, ![1]⟩
abbrev S1x1x1 : Shape := ⟨3, ![1, 1, 1]⟩
abbrev S1x1x10 : Shape := ⟨3, ![1, 1, 10]⟩
abbrev S1024x75x10 : Shape := ⟨3, ![1024, 75, 10]⟩
abbrev S1024x10 : Shape := ⟨2, ![1024, 10]⟩

abbrev nBuf : Space → Nat
  | .hbm => 46
  | .vmem => 5
  | .smem => 0
  | _ => 0

abbrev bufTy : (tb : Table) → Fin (tcTables nBuf tb) → BufTy
  | .hbm, ⟨0, _⟩ => ⟨S1024x512, .f32⟩
  | .hbm, ⟨1, _⟩ => ⟨S100000x512, .f32⟩
  | .hbm, ⟨2, _⟩ => ⟨S100000, .i32⟩
  | .hbm, ⟨3, _⟩ => ⟨S_, .i32⟩
  | .hbm, ⟨4, _⟩ => ⟨S_, .f32⟩
  | .hbm, ⟨5, _⟩ => ⟨S100352x512, .f32⟩
  | .hbm, ⟨6, _⟩ => ⟨S1024x100352, .f32⟩
  | .hbm, ⟨7, _⟩ => ⟨S1024x75, .f32⟩
  | .hbm, ⟨8, _⟩ => ⟨S1024x75, .i32⟩
  | .hbm, ⟨9, _⟩ => ⟨S_, .i32⟩
  | .hbm, ⟨10, _⟩ => ⟨S1024x75, .i32⟩
  | .hbm, ⟨11, _⟩ => ⟨S1024x75, .i32⟩
  | .hbm, ⟨12, _⟩ => ⟨S_, .i32⟩
  | .hbm, ⟨13, _⟩ => ⟨S1024x75, .i32⟩
  | .hbm, ⟨14, _⟩ => ⟨S1024x75, .i1⟩
  | .hbm, ⟨15, _⟩ => ⟨S_, .i32⟩
  | .hbm, ⟨16, _⟩ => ⟨S1024x75, .i32⟩
  | .hbm, ⟨17, _⟩ => ⟨S1024x75, .i32⟩
  | .hbm, ⟨18, _⟩ => ⟨S1024x75, .i32⟩
  | .hbm, ⟨19, _⟩ => ⟨S1024x75x1, .i32⟩
  | .hbm, ⟨20, _⟩ => ⟨S1, .i32⟩
  | .hbm, ⟨21, _⟩ => ⟨S_, .i32⟩
  | .hbm, ⟨22, _⟩ => ⟨S1024x75x1, .i32⟩
  | .hbm, ⟨23, _⟩ => ⟨S1024x75x1, .i1⟩
  | .hbm, ⟨24, _⟩ => ⟨S1x1x1, .i32⟩
  | .hbm, ⟨25, _⟩ => ⟨S1024x75x1, .i32⟩
  | .hbm, ⟨26, _⟩ => ⟨S1024x75x1, .i1⟩
  | .hbm, ⟨27, _⟩ => ⟨S1024x75x1, .i1⟩
  | .hbm, ⟨28, _⟩ => ⟨S_, .i1⟩
  | .hbm, ⟨29, _⟩ => ⟨S1024x75, .i1⟩
  | .hbm, ⟨30, _⟩ => ⟨S1024x75, .i32⟩
  | .hbm, ⟨31, _⟩ => ⟨S_, .i32⟩
  | .hbm, ⟨32, _⟩ => ⟨S1024x75, .i32⟩
  | .hbm, ⟨33, _⟩ => ⟨S1024x75, .i32⟩
  | .hbm, ⟨34, _⟩ => ⟨S1024x75x1, .i32⟩
  | .hbm, ⟨35, _⟩ => ⟨S1x1x10, .i32⟩
  | .hbm, ⟨36, _⟩ => ⟨S1024x75x10, .i32⟩
  | .hbm, ⟨37, _⟩ => ⟨S1024x75x10, .i32⟩
  | .hbm, ⟨38, _⟩ => ⟨S1024x75x10, .i1⟩
  | .hbm, ⟨39, _⟩ => ⟨S1024x75x10, .i32⟩
  | .hbm, ⟨40, _⟩ => ⟨S_, .i32⟩
  | .hbm, ⟨41, _⟩ => ⟨S1024x10, .i32⟩
  | .hbm, ⟨42, _⟩ => ⟨S_, .i32⟩
  | .hbm, ⟨43, _⟩ => ⟨S1024x10, .i32⟩
  | .hbm, ⟨44, _⟩ => ⟨S1024x10, .i32⟩
  | .hbm, ⟨45, _⟩ => ⟨S1024x10, .f32⟩
  | .local _ .vmem, ⟨0, _⟩ => ⟨S1024x512, .f32⟩
  | .local _ .vmem, ⟨1, _⟩ => ⟨S2048x512, .f32⟩
  | .local _ .vmem, ⟨2, _⟩ => ⟨S2048x512, .f32⟩
  | .local _ .vmem, ⟨3, _⟩ => ⟨S1024x2048, .f32⟩
  | .local _ .vmem, ⟨4, _⟩ => ⟨S1024x2048, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_values : Ref sig .tc := ⟨.hbm, 7, rfl⟩
abbrev main_indices : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_call1_c : Ref sig .tc := ⟨.hbm, 12, rfl⟩
abbrev main_call1_v0 : Ref sig .tc := ⟨.hbm, 13, rfl⟩
abbrev main_call1_v1 : Ref sig .tc := ⟨.hbm, 14, rfl⟩
abbrev main_call1_c_0 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_call1_v5 : Ref sig .tc := ⟨.hbm, 19, rfl⟩
abbrev main_call1_c_1 : Ref sig .tc := ⟨.hbm, 20, rfl⟩
abbrev main_call1_c_2 : Ref sig .tc := ⟨.hbm, 21, rfl⟩
abbrev main_call1_v6 : Ref sig .tc := ⟨.hbm, 22, rfl⟩
abbrev main_call1_v7 : Ref sig .tc := ⟨.hbm, 23, rfl⟩
abbrev main_call1_v8 : Ref sig .tc := ⟨.hbm, 24, rfl⟩
abbrev main_call1_v9 : Ref sig .tc := ⟨.hbm, 25, rfl⟩
abbrev main_call1_v10 : Ref sig .tc := ⟨.hbm, 26, rfl⟩
abbrev main_call1_v11 : Ref sig .tc := ⟨.hbm, 27, rfl⟩
abbrev main_call1_c_3 : Ref sig .tc := ⟨.hbm, 28, rfl⟩
abbrev main_call1_v12 : Ref sig .tc := ⟨.hbm, 29, rfl⟩
abbrev main_call1_v13 : Ref sig .tc := ⟨.hbm, 30, rfl⟩
abbrev main_call1_c_4 : Ref sig .tc := ⟨.hbm, 31, rfl⟩
abbrev main_call1_v14 : Ref sig .tc := ⟨.hbm, 32, rfl⟩
abbrev main_v4 : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_v5 : Ref sig .tc := ⟨.hbm, 39, rfl⟩
abbrev main_c_1 : Ref sig .tc := ⟨.hbm, 40, rfl⟩
abbrev main_v6 : Ref sig .tc := ⟨.hbm, 41, rfl⟩
abbrev main_c_2 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S1024x512 : Shape := ⟨2, ![1024, 512]⟩
abbrev S100000x512 : Shape := ⟨2, ![100000, 512]⟩
abbrev S100000 : Shape := ⟨1, ![100000]⟩
abbrev S_ : Shape := ⟨0, ![]⟩
abbrev S100000x1 : Shape := ⟨2, ![100000, 1]⟩
abbrev S512 : Shape := ⟨1, ![512]⟩
abbrev S1x512 : Shape := ⟨2, ![1, 512]⟩
abbrev S1024 : Shape := ⟨1, ![1024]⟩
abbrev S1024x1 : Shape := ⟨2, ![1024, 1]⟩
abbrev S512x100000 : Shape := ⟨2, ![512, 100000]⟩
abbrev S1024x100000 : Shape := ⟨2, ![1024, 100000]⟩
abbrev S1x100000 : Shape := ⟨2, ![1, 100000]⟩
abbrev S1024x75 : Shape := ⟨2, ![1024, 75]⟩
abbrev S1024x75x1 : Shape := ⟨3, ![1024, 75, 1]⟩
abbrev S1 : Shape := ⟨1, ![1]⟩
abbrev S1x1x1 : Shape := ⟨3, ![1, 1, 1]⟩
abbrev S1x1x10 : Shape := ⟨3, ![1, 1, 10]⟩
abbrev S1024x75x10 : Shape := ⟨3, ![1024, 75, 10]⟩
abbrev S1024x10 : Shape := ⟨2, ![1024, 10]⟩

abbrev nBuf : Space → Nat
  | .hbm => 83
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S100000x512, .f32⟩
  | .hbm, ⟨2, _⟩ => ⟨S100000, .i32⟩
  | .hbm, ⟨3, _⟩ => ⟨S100000x512, .f32⟩
  | .hbm, ⟨4, _⟩ => ⟨S_, .f32⟩
  | .hbm, ⟨5, _⟩ => ⟨S100000, .f32⟩
  | .hbm, ⟨6, _⟩ => ⟨S100000x1, .f32⟩
  | .hbm, ⟨7, _⟩ => ⟨S100000x1, .f32⟩
  | .hbm, ⟨8, _⟩ => ⟨S100000x512, .f32⟩
  | .hbm, ⟨9, _⟩ => ⟨S100000x512, .f32⟩
  | .hbm, ⟨10, _⟩ => ⟨S_, .f32⟩
  | .hbm, ⟨11, _⟩ => ⟨S512, .f32⟩
  | .hbm, ⟨12, _⟩ => ⟨S1x512, .f32⟩
  | .hbm, ⟨13, _⟩ => ⟨S_, .f32⟩
  | .hbm, ⟨14, _⟩ => ⟨S1x512, .f32⟩
  | .hbm, ⟨15, _⟩ => ⟨S1x512, .f32⟩
  | .hbm, ⟨16, _⟩ => ⟨S100000x512, .f32⟩
  | .hbm, ⟨17, _⟩ => ⟨S100000x512, .f32⟩
  | .hbm, ⟨18, _⟩ => ⟨S1024x512, .f32⟩
  | .hbm, ⟨19, _⟩ => ⟨S_, .f32⟩
  | .hbm, ⟨20, _⟩ => ⟨S1024, .f32⟩
  | .hbm, ⟨21, _⟩ => ⟨S1024x1, .f32⟩
  | .hbm, ⟨22, _⟩ => ⟨S1024x1, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S1024x512, .f32⟩
  | .hbm, ⟨27, _⟩ => ⟨S512x100000, .f32⟩
  | .hbm, ⟨28, _⟩ => ⟨S1024x100000, .f32⟩
  | .hbm, ⟨29, _⟩ => ⟨S1024x512, .f32⟩
  | .hbm, ⟨30, _⟩ => ⟨S_, .f32⟩
  | .hbm, ⟨31, _⟩ => ⟨S1024, .f32⟩
  | .hbm, ⟨32, _⟩ => ⟨S1024x1, .f32⟩
  | .hbm, ⟨33, _⟩ => ⟨S100000x512, .f32⟩
  | .hbm, ⟨34, _⟩ => ⟨S_, .f32⟩
  | .hbm, ⟨35, _⟩ => ⟨S100000, .f32⟩
  | .hbm, ⟨36, _⟩ => ⟨S_, .f32⟩
  | .hbm, ⟨37, _⟩ => ⟨S1024x100000, .f32⟩
  | .hbm, ⟨38, _⟩ => ⟨S1024x100000, .f32⟩
  | .hbm, ⟨39, _⟩ => ⟨S1024x100000, .f32⟩
  | .hbm, ⟨40, _⟩ => ⟨S1024x100000, .f32⟩
  | .hbm, ⟨41, _⟩ => ⟨S1x100000, .f32⟩
  | .hbm, ⟨42, _⟩ => ⟨S1024x100000, .f32⟩
  | .hbm, ⟨43, _⟩ => ⟨S1024x100000, .f32⟩
  | .hbm, ⟨44, _⟩ => ⟨S1024x100000, .f32⟩
  | .hbm, ⟨45, _⟩ => ⟨S1024x75, .f32⟩
  | .hbm, ⟨46, _⟩ => ⟨S1024x75, .i32⟩
  | .hbm, ⟨47, _⟩ => ⟨S_, .i32⟩
  | .hbm, ⟨48, _⟩ => ⟨S1024x75, .i32⟩
  | .hbm, ⟨49, _⟩ => ⟨S1024x75, .i1⟩
  | .hbm, ⟨50, _⟩ => ⟨S_, .i32⟩
  | .hbm, ⟨51, _⟩ => ⟨S1024x75, .i32⟩
  | .hbm, ⟨52, _⟩ => ⟨S1024x75, .i32⟩
  | .hbm, ⟨53, _⟩ => ⟨S1024x75, .i32⟩
  | .hbm, ⟨54, _⟩ => ⟨S1024x75x1, .i32⟩
  | .hbm, ⟨55, _⟩ => ⟨S1, .i32⟩
  | .hbm, ⟨56, _⟩ => ⟨S_, .i32⟩
  | .hbm, ⟨57, _⟩ => ⟨S1024x75x1, .i32⟩
  | .hbm, ⟨58, _⟩ => ⟨S1024x75x1, .i1⟩
  | .hbm, ⟨59, _⟩ => ⟨S1x1x1, .i32⟩
  | .hbm, ⟨60, _⟩ => ⟨S1024x75x1, .i32⟩
  | .hbm, ⟨61, _⟩ => ⟨S1024x75x1, .i1⟩
  | .hbm, ⟨62, _⟩ => ⟨S1024x75x1, .i1⟩
  | .hbm, ⟨63, _⟩ => ⟨S_, .i1⟩
  | .hbm, ⟨64, _⟩ => ⟨S1024x75, .i1⟩
  | .hbm, ⟨65, _⟩ => ⟨S1024x75, .i32⟩
  | .hbm, ⟨66, _⟩ => ⟨S_, .i32⟩
  | .hbm, ⟨67, _⟩ => ⟨S1024x75, .i32⟩
  | .hbm, ⟨68, _⟩ => ⟨S1024x75, .i32⟩
  | .hbm, ⟨69, _⟩ => ⟨S1024x75x1, .i32⟩
  | .hbm, ⟨70, _⟩ => ⟨S1x1x10, .i32⟩
  | .hbm, ⟨71, _⟩ => ⟨S1024x75x10, .i32⟩
  | .hbm, ⟨72, _⟩ => ⟨S1024x75x10, .i32⟩
  | .hbm, ⟨73, _⟩ => ⟨S1024x75x10, .i1⟩
  | .hbm, ⟨74, _⟩ => ⟨S1024x75x10, .i32⟩
  | .hbm, ⟨75, _⟩ => ⟨S_, .i32⟩
  | .hbm, ⟨76, _⟩ => ⟨S1024x10, .i32⟩
  | .hbm, ⟨77, _⟩ => ⟨S_, .i32⟩
  | .hbm, ⟨78, _⟩ => ⟨S1024, .i32⟩
  | .hbm, ⟨79, _⟩ => ⟨S1024x1, .i32⟩
  | .hbm, ⟨80, _⟩ => ⟨S1024x10, .i32⟩
  | .hbm, ⟨81, _⟩ => ⟨S1024x10, .i32⟩
  | .hbm, ⟨82, _⟩ => ⟨S1024x10, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_v0 : Ref sig .tc := ⟨.hbm, 18, rfl⟩
abbrev main_call1_cst : Ref sig .tc := ⟨.hbm, 19, rfl⟩
abbrev main_call1_v1 : Ref sig .tc := ⟨.hbm, 20, rfl⟩
abbrev main_call1_v2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_values : Ref sig .tc := ⟨.hbm, 45, rfl⟩
abbrev main_indices : Ref sig .tc := ⟨.hbm, 46, rfl⟩
abbrev main_call2_c : Ref sig .tc := ⟨.hbm, 47, rfl⟩
abbrev main_call2_v0 : Ref sig .tc := ⟨.hbm, 48, rfl⟩
abbrev main_call2_v1 : Ref sig .tc := ⟨.hbm, 49, rfl⟩
abbrev main_call2_c_0 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_c_1 : Ref sig .tc := ⟨.hbm, 55, rfl⟩
abbrev main_call2_c_2 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_v9 : Ref sig .tc := ⟨.hbm, 60, rfl⟩
abbrev main_call2_v10 : Ref sig .tc := ⟨.hbm, 61, rfl⟩
abbrev main_call2_v11 : Ref sig .tc := ⟨.hbm, 62, rfl⟩
abbrev main_call2_c_3 : Ref sig .tc := ⟨.hbm, 63, rfl⟩
abbrev main_call2_v12 : Ref sig .tc := ⟨.hbm, 64, rfl⟩
abbrev main_call2_v13 : Ref sig .tc := ⟨.hbm, 65, rfl⟩
abbrev main_call2_c_4 : Ref sig .tc := ⟨.hbm, 66, rfl⟩
abbrev main_call2_v14 : Ref sig .tc := ⟨.hbm, 67, rfl⟩
abbrev main_v29 : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_v30 : Ref sig .tc := ⟨.hbm, 74, rfl⟩
abbrev main_c : Ref sig .tc := ⟨.hbm, 75, rfl⟩
abbrev main_v31 : Ref sig .tc := ⟨.hbm, 76, rfl⟩
abbrev main_c_4 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩

abbrev nD : Nat := 1
abbrev τ : Topo := Topo.v7x

variable {F : FTy → Type} [FloatOps F]
-- ==== Proof.Rows.lean ====
module

public import Idealize.ShloMosaic.PureOps.Ideal
public import Mathlib.Analysis.SpecialFunctions.Pow.NNReal

/-! # Rows of unit length

Real arithmetic of the two programs' scores.  A row is divided by its length (`unitRow`).  The reference's negative
squared distance of two centred unit rows is twice their scalar product less two, whatever the centre is, and the
scalar product of two unit rows is at least minus one. -/

@[expose] public section

noncomputable section

namespace Cert.TopRows

open Idealize.ShloMosaic

/-- The row `u` divided by its length. -/
def unitRow {n : ℕ} (u : Fin n → ℝ) (k : Fin n) : ℝ := u k * (1 / Real.sqrt (∑ l, u l * u l))

/-- The scalar product of two rows. -/
def inner {n : ℕ} (a b : Fin n → ℝ) : ℝ := ∑ k, a k * b k

/-- A row of positive length, divided by its length, has squares that sum to one. -/
theorem inner_unitRow_self {n : ℕ} (u : Fin n → ℝ) (h : 0 < ∑ l, u l * u l) : inner (unitRow u) (unitRow u) = 1 := by
  have hs := Real.mul_self_sqrt h.le
  have hp := (Real.sqrt_pos.mpr h).ne'
  unfold inner unitRow
  generalize Real.sqrt (∑ l, u l * u l) = r at hs hp
  have e : ∀ k, u k * (1 / r) * (u k * (1 / r)) = u k * u k * (1 / r * (1 / r)) := fun k => by ring
  simp only [e, ← Finset.sum_mul]
  rw [← hs]
  field_simp

/-- The expanded square of the distance of `a - c` and `b - c`, negated: the centre `c` cancels. -/
theorem neg_dist {n : ℕ} (a b c : Fin n → ℝ) :
    -((∑ k, (a k - c k) * (a k - c k)) - 2 * (∑ k, (a k - c k) * (b k - c k)) + ∑ k, (b k - c k) * (b k - c k))
      = 2 * inner a b - inner a a - inner b b := by
  have e : (∑ k, (a k - c k) * (a k - c k)) - 2 * (∑ k, (a k - c k) * (b k - c k)) + ∑ k, (b k - c k) * (b k - c k)
      = inner a a - 2 * inner a b + inner b b := by
    unfold inner
    rw [Finset.mul_sum, Finset.mul_sum, ← Finset.sum_sub_distrib, ← Finset.sum_sub_distrib, ← Finset.sum_add_distrib,
      ← Finset.sum_add_distrib]
    exact Finset.sum_congr rfl fun k _ => by ring
  rw [e]
  ring

/-- The scalar product of two rows of length at most one is at least minus one. -/
theorem neg_one_le_inner {n : ℕ} (a b : Fin n → ℝ) (ha : inner a a ≤ 1) (hb : inner b b ≤ 1) : -1 ≤ inner a b := by
  have h : 0 ≤ ∑ k, (a k + b k) * (a k + b k) := Finset.sum_nonneg fun k _ => mul_self_nonneg _
  have e : ∑ k, (a k + b k) * (a k + b k) = inner a a + 2 * inner a b + inner b b := by
    unfold inner
    rw [Finset.mul_sum, ← Finset.sum_add_distrib, ← Finset.sum_add_distrib]
    exact Finset.sum_congr rfl fun k _ => by ring
  rw [e] at h
  linarith

/-! ## The same on the extended reals -/

/-- A sum of real numbers is that real sum. -/
theorem sum_coe {ι : Type*} [Fintype ι] (f : ι → ℝ) : (∑ k, ((f k : ℝ) : EReal)) = ((∑ k, f k : ℝ) : EReal) := by
  classical
  induction (Finset.univ : Finset ι) using Finset.induction_on with
  | empty => simp
  | insert a s ha ih => rw [Finset.sum_insert ha, Finset.sum_insert ha, ih, EReal.coe_add]

/-- A sum of products of real numbers is that real sum. -/
theorem sum_mul_coe {ι : Type*} [Fintype ι] (f g : ι → ℝ) :
    (∑ k, ((f k : ℝ) : EReal) * ((g k : ℝ) : EReal)) = ((∑ k, f k * g k : ℝ) : EReal) := by
  rw [← sum_coe]
  exact Finset.sum_congr rfl fun k _ => (EReal.coe_mul _ _).symm

/-- A number over the square root of a positive real. -/
theorem div_sqrt_coe (x s : ℝ) (h : 0 < s) :
    Ideal.div (x : EReal) (Ideal.sqrt (s : EReal)) = ((x * (1 / Real.sqrt s) : ℝ) : EReal) := by
  rw [Ideal.sqrt_coe, if_neg (not_lt.mpr h.le), Ideal.div_coe (Real.sqrt_pos.mpr h).ne', EReal.coe_mul]

/-- An extended real whose absolute value is below plus infinity is a real number. -/
theorem coe_toReal_of_abs_lt (x : EReal) (h : max x (-x) < ⊤) : ((x.toReal : ℝ) : EReal) = x := by
  apply EReal.coe_toReal
  · rintro rfl; simp at h
  · rintro rfl; simp at h

/-- A square is not negative. -/
theorem mul_self_nonneg' (x : EReal) : 0 ≤ x * x := by
  rcases le_total 0 x with h | h
  · exact mul_nonneg h h
  · have := mul_nonneg (EReal.neg_nonneg.mpr h) (EReal.neg_nonneg.mpr h)
    rwa [EReal.neg_mul, mul_comm, EReal.neg_mul, neg_neg] at this

/-- A sum of squares that is not infinite is of real numbers. -/
theorem coe_toReal_of_sum_ne_top {n : ℕ} (u : Fin n → EReal) (h : (∑ l, u l * u l) ≠ ⊤) (k : Fin n) :
    (((u k).toReal : ℝ) : EReal) = u k := by
  have hk : u k * u k ≤ ∑ l, u l * u l :=
    Finset.single_le_sum (f := fun l => u l * u l) (fun l _ => mul_self_nonneg' (u l)) (Finset.mem_univ k)
  have hne : u k * u k ≠ ⊤ := fun e => h (top_le_iff.mp (e ▸ hk))
  apply EReal.coe_toReal
  · intro e; rw [e] at hne; exact hne rfl
  · intro e; rw [e] at hne; exact hne rfl

/-- The sum of the squares of real entries. -/
theorem sum_sq_coe {n : ℕ} (u : Fin n → EReal) (h : ∀ k, (((u k).toReal : ℝ) : EReal) = u k) :
    (∑ l, u l * u l) = ((∑ l, (u l).toReal * (u l).toReal : ℝ) : EReal) := by
  rw [← sum_mul_coe]
  exact Finset.sum_congr rfl fun k _ => by rw [h]

/-- A row of real entries with a positive sum of squares, divided by its length, is a real row of length one. -/
theorem exists_unitRow {n : ℕ} (u : Fin n → EReal) (h : ∀ k, (((u k).toReal : ℝ) : EReal) = u k) (hp : 0 < ∑ l, u l * u l) :
    ∃ a : Fin n → ℝ, (∀ k, Ideal.div (u k) (Ideal.sqrt (∑ l, u l * u l)) = ((a k : ℝ) : EReal)) ∧ inner a a = 1 := by
  rw [sum_sq_coe u h] at hp ⊢
  have hp' : 0 < ∑ l, (u l).toReal * (u l).toReal := by exact_mod_cast hp
  refine ⟨unitRow fun k => (u k).toReal, fun k => ?_, inner_unitRow_self _ hp'⟩
  conv_lhs => rw [← h k]
  exact div_sqrt_coe _ _ hp'

/-- Any row with a positive sum of squares, divided by its length, is a real row of length at most one; it is the zero row
    if some entry is infinite. -/
theorem exists_shortRow {n : ℕ} (u : Fin n → EReal) (hp : 0 < ∑ l, u l * u l) :
    ∃ a : Fin n → ℝ, (∀ k, Ideal.div (u k) (Ideal.sqrt (∑ l, u l * u l)) = ((a k : ℝ) : EReal)) ∧ inner a a ≤ 1 := by
  by_cases ht : (∑ l, u l * u l) = ⊤
  · refine ⟨fun _ => 0, fun k => ?_, by simp [inner]⟩
    rw [ht, Ideal.sqrt_top, Ideal.div, if_neg EReal.top_ne_zero, EReal.inv_top, mul_zero, EReal.coe_zero]
  · obtain ⟨a, h, ha⟩ := exists_unitRow u (coe_toReal_of_sum_ne_top u ht) hp
    exact ⟨a, h, ha.le⟩

end Cert.TopRows

end

end
-- ==== Proof.Scores.lean ====
module

public import proofs.«01_k».proof.Proof.Rows
public import proofs.«01_k».proof.Proof.Gen.ReferenceIdeal.Run
public import proofs.«01_k».proof.Proof.Gen.KernelIdeal.Skeleton
public import Idealize.ShloMosaic.Lib.Pointwise
public import Idealize.ShloMosaic.Lib.Tactic.CleanTypes
public import Idealize.ShloMosaic.Lib.IdealHost
public import Idealize.ShloMosaic.Lib.Tactic.WordOmega

/-! # The scores of the two programs

What the kernel's block of scores and the reference's matrix of negative distances hold at a place, once the rows are known
to become real rows of length at most one. -/

@[expose] public section

set_option maxRecDepth 16384

noncomputable section

namespace Cert.TopRows

open Idealize.ShloMosaic Idealize.ShloMosaic.StableHlo

/-! ## The constants -/

/-- The reference divides its sum of rows by a number that is not zero. -/
theorem ofBits_rows : ∃ r : ℝ, r ≠ 0 ∧ Ideal.ofBits .f32 0x47C35000#32 = ((r : ℝ) : EReal) :=
  ⟨100000, by norm_num, by simp [Ideal.ofBits, Ideal.ieee, -EReal.coe_mul]; norm_num⟩

/-- The word of two. -/
theorem ofBits_two : Ideal.ofBits .f32 0x40000000#32 = ((2 : ℝ) : EReal) := by
  simp [Ideal.ofBits, Ideal.ieee, -EReal.coe_mul]; norm_num

/-- The score of a padded column is a real number below minus one. -/
theorem ofBits_pad : ∃ r : ℝ, r < -1 ∧ Ideal.ofBits .f32 0xF149F2CA#32 = ((r : ℝ) : EReal) := by
  refine ⟨_, ?_, by simp [Ideal.ofBits, Ideal.ieee, -EReal.coe_mul]; rfl⟩
  norm_num

/-- The kernel's floor under a sum of squares is positive. -/
theorem ofBits_floor_pos : 0 < Ideal.ofBits .f32 0x0DA24260#32 := by
  have h : ∃ r : ℝ, 0 < r ∧ Ideal.ofBits .f32 0x0DA24260#32 = ((r : ℝ) : EReal) := by
    refine ⟨_, ?_, by simp [Ideal.ofBits, Ideal.ieee, -EReal.coe_mul]; rfl⟩
    norm_num
  obtain ⟨r, hr, e⟩ := h
  rw [e]
  exact_mod_cast hr

/-- The word of plus infinity. -/
theorem ofBits_inf : Ideal.ofBits .f32 0x7F800000#32 = ⊤ := by
  simp [Ideal.ofBits, Ideal.ieee]

/-! ## The reference -/

section Reference

open Cert.ReferenceIdeal Cert.ReferenceIdeal.Value

variable (V0 : Valuation τ sig (Elt Ideal))
  (a : Fin 1024 → Fin 512 → ℝ) (b : Fin 100000 → Fin 512 → ℝ)

/-- The reference's query matrix. -/
abbrev queries : FVec Ideal S1024x512 .f32 := V0 (Proc.devRef .tc main_arg0)
/-- The reference's training matrix. -/
abbrev rows : FVec Ideal S100000x512 .f32 := V0 (Proc.devRef .tc main_arg1)

/-- The centre of real unit rows is real. -/
theorem centre_real (hb : ∀ j k, Ideal.div (rows V0 (ix2 j k)) (Ideal.sqrt (∑ l, rows V0 (ix2 j l) * rows V0 (ix2 j l))) = ((b j k : ℝ) : EReal)) :
    ∃ c : Fin 512 → ℝ, ∀ k, (res_main_v6 (F := Ideal) V0 : FVec Ideal S1x512 .f32) (ix2 0 k) = ((c k : ℝ) : EReal) := by
  obtain ⟨r, hr, e⟩ := ofBits_rows
  refine ⟨fun k => (∑ j, b j k) * (1 / r), fun k => ?_⟩
  unfold res_main_v6 res_main_v2
  clean_types
  pointwise
  simp only [rows] at hb
  simp only [hb, sum_coe, e]
  rw [Ideal.div_coe hr, EReal.coe_mul]

/-- The reference's score of a query and a training row, from their real unit rows: the centre cancels. -/
theorem reference_score
    (ha : ∀ i k, Ideal.div (queries V0 (ix2 i k)) (Ideal.sqrt (∑ l, queries V0 (ix2 i l) * queries V0 (ix2 i l))) = ((a i k : ℝ) : EReal))
    (hb : ∀ j k, Ideal.div (rows V0 (ix2 j k)) (Ideal.sqrt (∑ l, rows V0 (ix2 j l) * rows V0 (ix2 j l))) = ((b j k : ℝ) : EReal))
    (i : Fin 1024) (j : Fin 100000) :
    (res_main_v28 (F := Ideal) V0 : FVec Ideal S1024x100000 .f32) (ix2 i j)
      = ((2 * inner (a i) (b j) - inner (a i) (a i) - inner (b j) (b j) : ℝ) : EReal) := by
  obtain ⟨c, hc⟩ := centre_real V0 b hb
  have hq : ∀ i k, (res_main_v13 (F := Ideal) V0 : FVec Ideal S1024x512 .f32) (ix2 i k) = ((a i k - c k : ℝ) : EReal) := by
    intro i k
    have h := ha i k
    have h' := hc k
    simp only [queries] at h
    unfold res_main_v13
    clean_types
    pointwise
    rw [h, h', EReal.coe_sub]
  have ht : ∀ j k, (res_main_v8 (F := Ideal) V0 : FVec Ideal S100000x512 .f32) (ix2 j k) = ((b j k - c k : ℝ) : EReal) := by
    intro j k
    have h := hb j k
    have h' := hc k
    simp only [rows] at h
    unfold res_main_v8 res_main_v2
    clean_types
    pointwise
    rw [h, h', EReal.coe_sub]
  rw [← neg_dist (a i) (b j) c]
  unfold res_main_v28
  clean_types
  pointwise
  simp only [hq, ht]
  simp only [sum_mul_coe]
  simp only [ofBits_two, ← EReal.coe_sub, ← EReal.coe_mul, ← EReal.coe_add, ← EReal.coe_neg]

end Reference

/-! ## The kernel's block -/

section Block

open Cert.KernelIdeal Cert.KernelIdeal.Gen

variable (g : grid0.Coords) (x : FVec Ideal S1024x512 .f32) (y : FVec Ideal S2048x512 .f32) (r : Fin 1024) (p : Fin 2048)

/-- The comparison that tells a padded column. -/
theorem column_word (n q : ℕ) (hn : n < 49) (hq : q < 2048) :
    IntOp.cmpi .slt (IntOp.addi (Scalar.muli (BitVec.ofNat 32 n) 2048#32) (BitVec.ofNat 32 q)) 100000#32
      = BitVec.ofBool (decide (n * 2048 + q < 100000)) := by
  have e : IntOp.addi (Scalar.muli (BitVec.ofNat 32 n) 2048#32) (BitVec.ofNat 32 q) = BitVec.ofNat 32 (n * 2048 + q) := by
    rw [BitVec.ofNat_add, BitVec.ofNat_mul]
    rfl
  rw [e]
  word_omega

/-- A score of the kernel's block in a column of the training matrix. -/
theorem block_score (h : (g 0).val * 2048 + p.val < 100000) (a b : Fin 512 → ℝ)
    (ha : ∀ k, Ideal.div (x (ix2 r k)) (Ideal.sqrt (∑ l, x (ix2 r l) * x (ix2 r l))) = ((a k : ℝ) : EReal))
    (hb : ∀ k, Ideal.div (y (ix2 p k)) (Ideal.sqrt (max (∑ l, y (ix2 p l) * y (ix2 p l)) (Ideal.ofBits .f32 0x0DA24260#32))) = ((b k : ℝ) : EReal)) :
    k0_pay1 (F := Ideal) g x y (ix2 r p) = ((inner a b : ℝ) : EReal) := by
  pointwise [k0_pay1]
  rw [column_word _ _ (g 0).isLt p.isLt, decide_eq_true h]
  simp only [ha, hb, sum_mul_coe]
  rfl

/-- A score of the kernel's block in a padded column. -/
theorem block_pad (h : ¬ (g 0).val * 2048 + p.val < 100000) :
    k0_pay1 (F := Ideal) g x y (ix2 r p) = Ideal.ofBits .f32 0xF149F2CA#32 := by
  pointwise [k0_pay1]
  rw [column_word _ _ (g 0).isLt p.isLt, decide_eq_false h]
  rfl

end Block

end Cert.TopRows

end

end
-- ==== Proof.Array.lean ====
module

public import proofs.«01_k».proof.Proof.Scores
public import proofs.«01_k».proof.Proof.Gen.KernelIdeal.Frame
public import Idealize.ShloMosaic.Lib.Pipeline.Value

/-! # The kernel's matrix of scores

What the region leaves in its result array: the kernel's blocks, column block by column block, are one matrix, the scalar
products of the unit rows in the columns of the training matrix and one constant in the padded columns. -/

@[expose] public section

set_option maxRecDepth 16384

noncomputable section

namespace Cert.TopRows

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD)

/-- The kernel's query matrix. -/
abbrev kQueries : FVec Ideal S1024x512 .f32 := m ((c : Thread nD τ).loc main_arg0)
/-- The kernel's training matrix. -/
abbrev kRows : FVec Ideal S100000x512 .f32 := m ((c : Thread nD τ).loc main_arg1)

/-- The matrix of scores of real rows: their scalar products, and one constant in the padded columns. -/
def scoreMatrix (a : Fin 1024 → Fin 512 → ℝ) (b : Fin 100000 → Fin 512 → ℝ) : FVec Ideal S1024x100352 .f32 := fun j =>
  if h : (j 1).val < 100000 then ((inner (a (j 0)) (b ⟨(j 1).val, h⟩) : ℝ) : EReal) else Ideal.ofBits .f32 0xF149F2CA#32

/-- The matrix of scores in the column of a training row. -/
theorem scoreMatrix_row (a : Fin 1024 → Fin 512 → ℝ) (b : Fin 100000 → Fin 512 → ℝ) (i : Fin 1024) (j : Fin 100352)
    (h : j.val < 100000) : scoreMatrix a b (ix2 i j) = ((inner (a i) (b ⟨j.val, h⟩) : ℝ) : EReal) := dif_pos h

/-- The matrix of scores in a padded column. -/
theorem scoreMatrix_pad (a : Fin 1024 → Fin 512 → ℝ) (b : Fin 100000 → Fin 512 → ℝ) (i : Fin 1024) (j : Fin 100352)
    (h : ¬ j.val < 100000) : scoreMatrix a b (ix2 i j) = Ideal.ofBits .f32 0xF149F2CA#32 := dif_neg h

/-- The blocks of the queries, the padded rows and the scores at a point of the grid. -/
theorem block_indices : ∀ t : Fin cfg0.N, (grid0.coords t 0).val = t.val ∧ win0_0.index t 0 = 0 ∧ win0_0.index t 1 = 0
    ∧ win0_1.index t 0 = t.val ∧ win0_1.index t 1 = 0 ∧ win0_2.index t 0 = 0 ∧ win0_2.index t 1 = t.val := by
  decide +kernel

/-- No block of the scores is cut at the edge of the array. -/
theorem block_sizes : ∀ t : Fin cfg0.N, win0_2.xsize (grid0.coords t) 0 = 1024 ∧ win0_2.xsize (grid0.coords t) 1 = 2048 := by
  decide +kernel

/-- The padded training matrix, as the region finds it. -/
theorem padded_eq : (V m c main_v0 : FVec Ideal S100352x512 .f32)
    = pad S100352x512 ![0, 0] ![352, 0] ![0, 0] (kRows m c) (sitofp .f32 (constantI S_ 32 0#32)) pads_S100000x512_S100352x512_03520_000 h_S_ := by
  simp only [V, V0, hostOps0, hostOps0_1, List.flatten_cons, List.flatten_nil, List.append_nil, List.cons_append, List.nil_append]
  after_results
  rfl

/-- A row of the padded training matrix that is a row of the training matrix. -/
theorem padded_apply (j : Fin 100352) (k : Fin 512) (h : j.val < 100000) :
    (V m c main_v0 : FVec Ideal S100352x512 .f32) (ix2 j k) = kRows m c (ix2 ⟨j.val, h⟩ k) := by
  rw [padded_eq]
  pointwise
  exact dif_pos h

/-- The block of queries at a point is the whole matrix. -/
theorem queries_block (t : Fin cfg0.N) (r : Fin 1024) (k : Fin 512) :
    (iblk m c 0 t : FVec Ideal S1024x512 .f32) (ix2 r k) = kQueries m c (ix2 r k) := by
  obtain ⟨-, h0, h1, -⟩ := block_indices t
  show (V m c main_arg0 : FVec Ideal S1024x512 .f32) _ = _
  rw [V_main_arg0]
  congr 1
  funext a
  apply Fin.ext
  match a with
  | ⟨0, _⟩ =>
    refine (Pipeline.Window.rect_emb_val win0_0 t _ 0 rfl).trans ?_
    show win0_0.index t 0 * 1024 + r.val = r.val
    rw [h0]; omega
  | ⟨1, _⟩ =>
    refine (Pipeline.Window.rect_emb_val win0_0 t _ 1 rfl).trans ?_
    show win0_0.index t 1 * 512 + k.val = k.val
    rw [h1]; omega

/-- The block of padded rows at a point is the rows from the point's first column on. -/
theorem rows_block (t : Fin cfg0.N) (p : Fin 2048) (k : Fin 512) (h : t.val * 2048 + p.val < 100352) :
    (iblk m c 1 t : FVec Ideal S2048x512 .f32) (ix2 p k)
      = (V m c main_v0 : FVec Ideal S100352x512 .f32) (ix2 ⟨t.val * 2048 + p.val, h⟩ k) := by
  obtain ⟨-, -, -, h0, h1, -⟩ := block_indices t
  show (V m c main_v0 : FVec Ideal S100352x512 .f32) _ = _
  congr 1
  funext a
  apply Fin.ext
  match a with
  | ⟨0, _⟩ =>
    refine (Pipeline.Window.rect_emb_val win0_1 t _ 0 rfl).trans ?_
    show win0_1.index t 0 * 2048 + p.val = t.val * 2048 + p.val
    rw [h0]
  | ⟨1, _⟩ =>
    refine (Pipeline.Window.rect_emb_val win0_1 t _ 1 rfl).trans ?_
    show win0_1.index t 1 * 512 + k.val = k.val
    rw [h1]; omega

section Scores

variable (a : Fin 1024 → Fin 512 → ℝ) (b : Fin 100000 → Fin 512 → ℝ)
  (ha : ∀ i k, Ideal.div (kQueries m c (ix2 i k)) (Ideal.sqrt (∑ l, kQueries m c (ix2 i l) * kQueries m c (ix2 i l))) = ((a i k : ℝ) : EReal))
  (hb : ∀ j k, Ideal.div (kRows m c (ix2 j k))
    (Ideal.sqrt (max (∑ l, kRows m c (ix2 j l) * kRows m c (ix2 j l)) (Ideal.ofBits .f32 0x0DA24260#32))) = ((b j k : ℝ) : EReal))

/-- The block of the matrix of scores at a point of the grid, read at an element. -/
theorem read_scores (t : Fin cfg0.N) (r : Fin 1024) (p : Fin 2048) (h : t.val * 2048 + p.val < 100352) :
    ((win0_2.blk t).view.read (Elt Ideal) (scoreMatrix a b) : FVec Ideal S1024x2048 .f32) (ix2 r p)
      = scoreMatrix a b (ix2 r ⟨t.val * 2048 + p.val, h⟩) := by
  obtain ⟨-, -, -, -, -, h0, h1⟩ := block_indices t
  refine congrArg (scoreMatrix a b) ?_
  funext x
  apply Fin.ext
  match x with
  | ⟨0, _⟩ =>
    refine (Pipeline.Window.rect_emb_val win0_2 t _ 0 rfl).trans ?_
    show win0_2.index t 0 * 1024 + r.val = r.val
    rw [h0]; omega
  | ⟨1, _⟩ =>
    refine (Pipeline.Window.rect_emb_val win0_2 t _ 1 rfl).trans ?_
    show win0_2.index t 1 * 2048 + p.val = t.val * 2048 + p.val
    rw [h1]

include ha hb in
/-- What the kernel computes at a point of the grid is the point's block of the matrix of scores, element by element. -/
theorem block_eq (t : Fin cfg0.N) (r : Fin 1024) (p : Fin 2048) :
    (k0_pay1 (F := Ideal) (grid0.coords t) (iblk m c 0 t) (iblk m c 1 t) : FVec Ideal S1024x2048 .f32) (ix2 r p)
      = ((win0_2.blk t).view.read (Elt Ideal) (scoreMatrix a b) : FVec Ideal S1024x2048 .f32) (ix2 r p) := by
  have ht : t.val < 49 := t.isLt
  have hp := p.isLt
  have hc : (grid0.coords t 0).val = t.val := (block_indices t).1
  have hj : t.val * 2048 + p.val < 100352 := by omega
  rw [read_scores a b t r p hj]
  by_cases h : t.val * 2048 + p.val < 100000
  · refine (block_score _ _ _ r p (by rw [hc]; exact h) (a r) (b ⟨_, h⟩) ?_ ?_).trans (scoreMatrix_row a b r ⟨_, hj⟩ h).symm
    · intro k
      simp only [queries_block]
      exact ha r k
    · intro k
      simp only [rows_block m c t p _ hj, padded_apply m c ⟨_, hj⟩ _ h]
      exact hb ⟨_, h⟩ k
  · exact (block_pad _ _ _ r p (by rw [hc]; exact h)).trans (scoreMatrix_pad a b r ⟨_, hj⟩ h).symm

include ha hb in
/-- What the kernel computes at a point of the grid is the point's block of the matrix of scores. -/
theorem blocks_eq (t : Fin cfg0.N) :
    (k0_pay1 (F := Ideal) (grid0.coords t) (iblk m c 0 t) (iblk m c 1 t) : FVec Ideal S1024x2048 .f32)
      = ((win0_2.blk t).view.read (Elt Ideal) (scoreMatrix a b) : FVec Ideal S1024x2048 .f32) := by
  funext j
  obtain ⟨r, p, rfl⟩ : ∃ (r : Fin 1024) (p : Fin 2048), j = ix2 r p := ⟨j 0, j 1, eq_ix2 j⟩
  exact block_eq m c a b ha hb t r p

/-- The corner of a block that is a whole buffer. -/
theorem corner : (![0, 0] : Fin 2 → Nat) = fun _ => 0 := by
  funext x
  match x with
  | ⟨0, _⟩ => rfl
  | ⟨1, _⟩ => rfl

include ha hb in
/-- What a point of the grid writes back is its block of the matrix of scores. -/
theorem written (t : Fin cfg0.N) :
    (dats m 0 c).flushed 2 t = (win0_2.blk t).view.read (Elt Ideal) (scoreMatrix a b) := by
  show (cfg0.win 2).cut (grid0.coords t) ((dats m 0 c).after 2 t) = _
  rw [after0_2, out0_2, View.canon_unit_zero corner, View.ld_unit_zero corner, View.ld_unit_zero corner]
  exact blocks_eq m c a b ha hb t

/-- The block written at a point holds the columns from 2048 times the point on. -/
theorem mem_block (t : Fin cfg0.N) (i : S1024x100352.Idx) (h : t.val * 2048 ≤ (i 1 : Nat) ∧ (i 1 : Nat) < t.val * 2048 + 2048) :
    i ∈ ((cfg0.win 2).blk t).view.set := by
  obtain ⟨-, -, -, -, -, h0, h1⟩ := block_indices t
  have hi : (i 0 : Nat) < 1024 := (i 0).isLt
  show i ∈ ((View.whole main_v1).slice (win0_2.rect t)).set
  rw [View.set_slice_whole, Rect.mem_set_unit]
  intro x
  match x with
  | ⟨0, _⟩ =>
    show win0_2.index t 0 * win0_2.size 0 ≤ (i 0 : Nat) ∧ (i 0 : Nat) < win0_2.index t 0 * win0_2.size 0 + win0_2.xsize (grid0.coords t) 0
    rw [h0, (block_sizes t).1]; omega
  | ⟨1, _⟩ =>
    show win0_2.index t 1 * win0_2.size 1 ≤ (i 1 : Nat) ∧ (i 1 : Nat) < win0_2.index t 1 * win0_2.size 1 + win0_2.xsize (grid0.coords t) 1
    rw [h1, (block_sizes t).2]; exact h

include ha hb in
/-- The region's result array ends holding the matrix of scores. -/
theorem scores_final : (dats m 0 c).arrAt 2 cfg0.N = scoreMatrix a b := by
  refine (dats m 0 c).arrAt_eq_of_cover 2 (scoreMatrix a b) (fun t _ => written m c a b ha hb t) fun i => ?_
  have hi : (i 1 : Nat) < 100352 := (i 1).isLt
  refine ⟨⟨(i 1 : Nat) / 2048, show (i 1 : Nat) / 2048 < 49 by omega⟩, flush0_2 _, mem_block _ i ?_⟩
  show (i 1 : Nat) / 2048 * 2048 ≤ _ ∧ _ < (i 1 : Nat) / 2048 * 2048 + 2048
  omega

end Scores

end Cert.TopRows

end

end
-- ==== Proof.Histogram.lean ====
module

public import proofs.«01_k».proof.Proof.Gen.ReferenceIdeal.Run
public import Idealize.ShloMosaic.Lib.Pointwise
public import Idealize.ShloMosaic.Lib.ReduceAll
public import Idealize.ShloMosaic.Lib.WordArith
public import Idealize.ShloMosaic.Lib.Tactic.WordOmega
public import Mathlib.Data.BitVec

/-! # The histogram of the neighbours' labels

Both programs take the labels at the indices of the neighbours, mark each label's class and count the marks of a class over the
neighbours.  Here: those operations as functions of the labels and the indices, what they hold at a place when every index is
the number of a training row, and the sum of the counts over the classes when every label is a class. -/

@[expose] public section

set_option maxRecDepth 16384

noncomputable section

namespace Cert.TopRows

open Idealize.ShloMosaic Cert.ReferenceIdeal Cert.ReferenceIdeal.Facts₀ Cert.ReferenceIdeal.Facts

/-! ## Integer sums over one axis -/

/-- Addition of words commutes. -/
instance : Std.Commutative (IntOp.addi (w := 32)) := ⟨fun a b => BitVec.add_comm a b⟩
/-- Addition of words associates. -/
instance : Std.Associative (IntOp.addi (w := 32)) := ⟨fun a b c => BitVec.add_assoc a b c⟩

/-- A fold of words by addition, from zero, is their sum. -/
theorem fold_addi {ι : Type} (s : Finset ι) (f : ι → BitVec 32) : s.fold IntOp.addi 0#32 f = ∑ k ∈ s, f k := by
  classical
  induction s using Finset.induction_on with
  | empty => rfl
  | insert a s ha ih => rw [Finset.fold_insert ha, ih, Finset.sum_insert ha]; rfl

/-- The sum over the classes, at a query. -/
theorem sum_classes (x : IVec S1024x10 32) (h : S1024x10.ReducesTo [1] S1024) (hu : 0 < S_.numel) (i : Fin 1024) :
    Host.reduce IntOp.addi x (constantI S_ 32 0#32) h hu (ix1 i) = ∑ c : Fin 10, x (ix2 i c) := by
  have hr : S1024x10.Reduces [1] S1024 := by decide
  rw [Host.reduce_eq_fold_single IntOp.addi x _ h hr hu]
  refine (fold_addi _ _).trans (Finset.sum_congr rfl fun c _ => congrArg x ?_)
  funext a
  match a with
  | ⟨0, _⟩ => rfl
  | ⟨1, _⟩ => rfl

/-- The sum over the neighbours, at a query and a class. -/
theorem sum_neighbours (x : IVec S1024x75x10 32) (h : S1024x75x10.ReducesTo [1] S1024x10) (hu : 0 < S_.numel) (i : Fin 1024)
    (c : Fin 10) :
    Host.reduce IntOp.addi x (constantI S_ 32 0#32) h hu (ix2 i c) = ∑ r : Fin 75, x (ix3 i r c) := by
  have hr : S1024x75x10.Reduces [1] S1024x10 := by decide
  rw [Host.reduce_eq_fold_single IntOp.addi x _ h hr hu]
  refine (fold_addi _ _).trans (Finset.sum_congr rfl fun r _ => congrArg x ?_)
  funext a
  match a with
  | ⟨0, _⟩ => rfl
  | ⟨1, _⟩ => rfl
  | ⟨2, _⟩ => rfl

/-! ## The operations -/

/-- The indices as the take reads them: a negative one counts from the end. -/
def wrapped (idx : IVec S1024x75 32) : IVec S1024x75x1 32 :=
  broadcastInDim S1024x75x1 ![0, 1] bcast_S1024x75_S1024x75x1_0_1
    (select (cmpi .slt idx (broadcastInDim S1024x75 ![] bcast_S_S1024x75 (constantI S_ 32 0#32)))
      (addi idx (broadcastInDim S1024x75 ![] bcast_S_S1024x75 (constantI S_ 32 100000#32))) idx)

/-- Whether an index, so read, names an entry of the labels. -/
def inRange (w : IVec S1024x75x1 32) : IVec S1024x75x1 1 :=
  andi (cmpi .sge w (broadcastInDim S1024x75x1 ![] bcast_S_S1024x75x1 (constantI S_ 32 0#32)))
    (cmpi .sle w (broadcastInDim S1024x75x1 ![0, 1, 2] bcast_S1x1x1_S1024x75x1_0_1_2
      (broadcastInDim S1x1x1 ![2] bcast_S1_S1x1x1_2 (constantI S1 32 99999#32))))

/-- The labels at the indices, the least word where an index names no entry. -/
def taken (labels : IVec S100000 32) (idx : IVec S1024x75 32) : IVec S1024x75 32 :=
  select (Host.reduce IntOp.andi (inRange (wrapped idx)) (constantI S_ 1 1#1) reducesTo_S1024x75x1_S1024x75_d2 h_S_)
    (Host.gather gather_S100000_S1024x75x1_S1024x75_n_0_n_n_0_2_1 labels (wrapped idx))
    (broadcastInDim S1024x75 ![] bcast_S_S1024x75 (constantI S_ 32 2147483648#32))

/-- One where a label is the class, zero elsewhere. -/
def marks (lab : IVec S1024x75 32) : IVec S1024x75x10 32 :=
  extui 32 (cmpi .eq (broadcastInDim S1024x75x10 ![0, 1, 2] bcast_S1024x75x1_S1024x75x10_0_1_2
      (broadcastInDim S1024x75x1 ![0, 1] bcast_S1024x75_S1024x75x1_0_1 lab))
    (broadcastInDim S1024x75x10 ![0, 1, 2] bcast_S1x1x10_S1024x75x10_0_1_2 (iotaInDim S1x1x10 32 2))) natLt_1_32

/-- The number of neighbours of each class. -/
def histogram (labels : IVec S100000 32) (idx : IVec S1024x75 32) : IVec S1024x10 32 :=
  Host.reduce IntOp.addi (marks (taken labels idx)) (constantI S_ 32 0#32) reducesTo_S1024x75x10_S1024x10_d1 h_S_

/-- The sum of a histogram over the classes, beside every class. -/
def total (hist : IVec S1024x10 32) : IVec S1024x10 32 :=
  broadcastInDim S1024x10 ![0, 1] bcast_S1024x1_S1024x10_0_1 (broadcastInDim S1024x1 ![0] bcast_S1024_S1024x1_0
    (Host.reduce IntOp.addi hist (constantI S_ 32 0#32) reducesTo_S1024x10_S1024_d1 h_S_))

/-! ## What they hold -/

/-- The index as the take reads it, for the number of a training row. -/
theorem wrapped_apply (idx : IVec S1024x75 32) (i : Fin 1024) (r : Fin 75) (k : Fin 100000)
    (h : idx (ix2 i r) = BitVec.ofNat 32 k.val) : wrapped idx (ix3 i r 0) = BitVec.ofNat 32 k.val := by
  have hk := k.isLt
  unfold wrapped
  pointwise
  rw [h]
  word_omega

/-- Every index names an entry. -/
theorem inRange_apply (idx : IVec S1024x75 32) (k : Fin 1024 → Fin 75 → Fin 100000)
    (h : ∀ i r, idx (ix2 i r) = BitVec.ofNat 32 (k i r).val) (j : S1024x75x1.Idx) : inRange (wrapped idx) j = 1#1 := by
  obtain ⟨i, r, rfl⟩ : ∃ i r, j = ix3 i r 0 := ⟨j 0, j 1, (eq_ix3 j).trans (by rw [show j 2 = (0 : Fin 1) from Subsingleton.elim (α := Fin 1) _ _])⟩
  have hk := (k i r).isLt
  have e := wrapped_apply idx i r (k i r) (h i r)
  unfold inRange
  pointwise
  rw [e]
  word_omega

/-- The gather reads the label of the row that the index names. -/
theorem gather_label (labels : IVec S100000 32) (w : IVec S1024x75x1 32) (i : Fin 1024) (r : Fin 75) (k : Fin 100000)
    (h : w (ix3 i r 0) = BitVec.ofNat 32 k.val) :
    Host.gather gather_S100000_S1024x75x1_S1024x75_n_0_n_n_0_2_1 labels w (ix2 i r) = labels (ix1 k) := by
  have hk := k.isLt
  unfold Host.gather
  refine congrArg labels (funext fun a => ?_)
  match a with
  | ⟨0, _⟩ =>
    apply Fin.ext
    have hs : ∀ c, gather_S100000_S1024x75x1_S1024x75_n_0_n_n_0_2_1.siIdx (ix2 i r) c = ix3 i r 0 := by
      intro c
      funext b
      match b with
      | ⟨0, _⟩ => rfl
      | ⟨1, _⟩ => rfl
      | ⟨2, _⟩ => exact Subsingleton.elim (α := Fin 1) _ _
    show min (w (GatherDims.siIdx _ _ _)).toInt.toNat (100000 - 1) + 0 + 0 = k.val
    rw [hs, h]
    have e : (BitVec.ofNat 32 k.val).toInt = (k.val : Int) := by
      rw [BitVec.toInt_eq_toNat_of_lt] <;> rw [BitVec.toNat_ofNat] <;> omega
    rw [e]
    omega

/-- The labels at the indices. -/
theorem taken_apply (labels : IVec S100000 32) (idx : IVec S1024x75 32) (k : Fin 1024 → Fin 75 → Fin 100000)
    (h : ∀ i r, idx (ix2 i r) = BitVec.ofNat 32 (k i r).val) (i : Fin 1024) (r : Fin 75) :
    taken labels idx (ix2 i r) = labels (ix1 (k i r)) := by
  unfold taken select Scalar.select
  rw [Host.reduce_andi_one _ _ _ _ _ rfl (inRange_apply idx k h)]
  refine (if_pos rfl).trans ?_
  exact gather_label labels _ i r (k i r) (wrapped_apply idx i r (k i r) (h i r))

/-- The mark of a label at a class. -/
theorem marks_apply (lab : IVec S1024x75 32) (i : Fin 1024) (r : Fin 75) (c : Fin 10) :
    marks lab (ix3 i r c) = if lab (ix2 i r) = BitVec.ofNat 32 c.val then 1#32 else 0#32 := by
  unfold marks
  pointwise
  split_ifs with hc
  · rw [hc]; simp [IntOp.cmpi]
  · rw [show IntOp.cmpi .eq (lab (ix2 i r)) (BitVec.ofNat 32 c.val) = 0#1 by simp [IntOp.cmpi, beq_eq_false_iff_ne.mpr hc]]
    rfl

/-- The count of a class at a query, over the neighbours. -/
theorem histogram_apply (labels : IVec S100000 32) (idx : IVec S1024x75 32) (k : Fin 1024 → Fin 75 → Fin 100000)
    (h : ∀ i r, idx (ix2 i r) = BitVec.ofNat 32 (k i r).val) (i : Fin 1024) (c : Fin 10) :
    histogram labels idx (ix2 i c)
      = ∑ r : Fin 75, if labels (ix1 (k i r)) = BitVec.ofNat 32 c.val then 1#32 else 0#32 := by
  unfold histogram
  rw [sum_neighbours]
  exact Finset.sum_congr rfl fun r _ => by rw [marks_apply, taken_apply labels idx k h]

/-- A label that is a class is marked once. -/
theorem sum_marks (l : BitVec 32) (h : l.toNat < 10) : (∑ c : Fin 10, if l = BitVec.ofNat 32 c.val then 1#32 else 0#32) = 1#32 := by
  have e : ∀ c : Fin 10, (l = BitVec.ofNat 32 c.val) ↔ ((⟨l.toNat, h⟩ : Fin 10) = c) := by
    intro c
    have hc := c.isLt
    rw [Fin.ext_iff, ← BitVec.toNat_inj, BitVec.toNat_ofNat, Nat.mod_eq_of_lt (by omega)]
  exact (Finset.sum_eq_single (⟨l.toNat, h⟩ : Fin 10) (fun c _ hne => if_neg fun hc => hne ((e c).mp hc).symm)
    fun hn => absurd (Finset.mem_univ _) hn).trans (if_pos ((e _).mpr rfl))

/-- The counts of the classes at a query sum to the number of neighbours. -/
theorem total_apply (labels : IVec S100000 32) (idx : IVec S1024x75 32) (k : Fin 1024 → Fin 75 → Fin 100000)
    (h : ∀ i r, idx (ix2 i r) = BitVec.ofNat 32 (k i r).val) (hl : ∀ j, (labels (ix1 j)).toNat < 10) (i : Fin 1024) (c : Fin 10) :
    total (histogram labels idx) (ix2 i c) = 75#32 := by
  have hs : (∑ c : Fin 10, histogram labels idx (ix2 i c)) = 75#32 := by
    simp only [histogram_apply labels idx k h]
    rw [Finset.sum_comm]
    simp only [sum_marks _ (hl _)]
    decide
  unfold total
  pointwise
  exact (fold_addi _ _).trans hs

/-- So the number of neighbours less a count is the total less that count. -/
theorem sub_total (labels : IVec S100000 32) (idx : IVec S1024x75 32) (k : Fin 1024 → Fin 75 → Fin 100000)
    (h : ∀ i r, idx (ix2 i r) = BitVec.ofNat 32 (k i r).val) (hl : ∀ j, (labels (ix1 j)).toNat < 10)
    (hb : S_.BroadcastsInDim S1024x10 (![] : Fin 0 → Fin S1024x10.rank)) :
    subi (broadcastInDim S1024x10 ![] hb (constantI S_ 32 75#32)) (histogram labels idx)
      = subi (total (histogram labels idx)) (histogram labels idx) := by
  funext j
  obtain ⟨i, c, rfl⟩ : ∃ i c, j = ix2 i c := ⟨_, _, eq_ix2 j⟩
  show IntOp.subi _ _ = IntOp.subi _ _
  rw [total_apply labels idx k h hl]
  rfl

/-- The lesser of an index and the last row is the index. -/
theorem min_last (idx : IVec S1024x75 32) (k : Fin 1024 → Fin 75 → Fin 100000)
    (h : ∀ i r, idx (ix2 i r) = BitVec.ofNat 32 (k i r).val) :
    minsi idx (broadcastInDim S1024x75 ![] bcast_S_S1024x75 (constantI S_ 32 99999#32)) = idx := by
  funext j
  obtain ⟨i, r, rfl⟩ : ∃ i r, j = ix2 i r := ⟨_, _, eq_ix2 j⟩
  have hk := (k i r).isLt
  pointwise
  rw [h]
  have e : (BitVec.ofNat 32 (k i r).val).toNat = (k i r).val := by rw [BitVec.toNat_ofNat]; omega
  apply BitVec.eq_of_toNat_eq
  refine (Idealize.ShloMosaic.WordArith.toNat_minsi_of_lt _ 99999#32 (by omega) (by decide)).trans ?_
  rw [e]
  exact Nat.min_eq_left (Nat.le_of_lt_succ hk)

end Cert.TopRows

end

end
-- ==== Proof.KernelRun.lean ====
module

public import proofs.«01_k».proof.Proof.Array
public import proofs.«01_k».proof.Proof.Histogram

/-! # The kernel's run

What the kernel's run returns: the labels' histogram at the indices of the largest scores of the region's array, subtracted
from the number of neighbours. -/

@[expose] public section

set_option maxRecDepth 16384

noncomputable section

namespace Cert.TopRows

open Idealize.ShloMosaic Idealize.ShloMosaic.TcCoe Idealize.SL.Sem Idealize.ShloMosaic.StableHlo
open Cert.KernelIdeal Cert.KernelIdeal.Gen

/-- The indices of the 75 largest scores of each query, in the padded matrix. -/
abbrev kernelIndices (x : FVec Ideal S1024x100352 .f32) : IVec S1024x75 32 :=
  (Host.topK S1024x75 1 (FloatOps.cmpfTotal .gt) x sliceFits_S1024x100352_S1024x75).2

/-- What the operations after the region return, from the scores and the labels. -/
def kernelResult (x : FVec Ideal S1024x100352 .f32) (labels : IVec S100000 32) : FVec Ideal S1024x10 .f32 :=
  sitofp .f32 (subi (broadcastInDim S1024x10 ![] bcast_S_S1024x10 (constantI S_ 32 75#32))
    (histogram labels (minsi (kernelIndices x) (broadcastInDim S1024x75 ![] bcast_S_S1024x75 (constantI S_ 32 99999#32)))))

/-- The operations after the region, from any contents. -/
theorem tail_eq (W : Valuation τ sig (Elt Ideal)) :
    StableHlo.after ([hostOps1, hostOps1_1, hostOps1_2, hostOps1_3] : List (List (HloOp τ sig (Elt Ideal)))).flatten W (Proc.devRef .tc main_v9)
      = kernelResult (W (Proc.devRef .tc main_v1)) (W (Proc.devRef .tc main_arg2)) := by
  simp only [hostOps1, hostOps1_1, hostOps1_2, hostOps1_3, List.flatten_cons, List.flatten_nil, List.append_nil, List.cons_append, List.nil_append,
    TRef.binary, TRef.nullary, TRef.ternary, TRef.unary, TRef.toBuf, TRef.ofBuf, cast_eq]
  after_results_simp
  rfl

variable (m : (ℓ : Loc nD τ sig) → Buf (Elt Ideal) ℓ) (ρ : Dev nD → PrngReg)

/-- The kernel's labels. -/
abbrev kLabels (c : Dev nD) : IVec S100000 32 := m ((c : Thread nD τ).loc main_arg2)

/-- The kernel's run: its result from the region's array and the labels, its arguments unchanged. -/
theorem kernel_run : θ_run defs (onTc (τ := τ) (main (F := Ideal))) ⟨m, fun _ => 0, ρ⟩ (fun r => ∀ c : Dev nD,
      r.2.mem ((c.tc : Thread nD τ).loc main_v9) = kernelResult ((dats m 0 c).arrAt 2 cfg0.N) (kLabels m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨?_, h.2 c⟩) (θ_run_and (run_main m ρ) (unchanged m ρ))
  refine ((h.1 c).2 main_v9 (Pipeline.mem_restRefs_of main_v9 (by decide) (by decide))).trans ((tail_eq _).trans ?_)
  exact congrArg₂ kernelResult
    (Pipeline.withArrays_arr spec0 winFacts0.arr_inj c (V0 m c) (fun w => (dats m 0 c).arrAt w cfg0.N) 2)
    ((Pipeline.withArrays_of_ne spec0 c (V0 m c) (fun w => (dats m 0 c).arrAt w cfg0.N) main_arg2 (by decide)).trans (V_main_arg2 m c))

end Cert.TopRows

end

end
-- ==== Proof.SortLink.lean ====
module

public import Idealize.ShloMosaic.Lib.SortFacts

/-! # The stable sort of a padded list

Facts about the stable insertion sort: sorting a list whose tail never comes before its head part sorts the two
parts one after the other, and sorting commutes with renaming the elements.  Together: the first positions of the
sort of a padded row are the sort of the row itself. -/

@[expose] public section

namespace Cert.TopRows

open Idealize.ShloMosaic

/-- Inserting an element before which nothing of `r` comes leaves `r` behind. -/
theorem insertBefore_append {ι : Type} (B : ι → ι → Bool) (a : ι) (l r : List ι) (h : ∀ b ∈ r, B b a = false) :
    insertBefore B a (l ++ r) = insertBefore B a l ++ r := by
  induction l with
  | nil =>
    cases r with
    | nil => rfl
    | cons b r =>
      show insertBefore B a (b :: r) = [a] ++ (b :: r)
      unfold insertBefore
      rw [h b List.mem_cons_self]
      rfl
  | cons b l ih =>
    show insertBefore B a (b :: (l ++ r)) = insertBefore B a (b :: l) ++ r
    unfold insertBefore
    split
    · rw [ih]; rfl
    · rfl

/-- If no element of `r` comes before an element of `l`, the sort of `l ++ r` is the two sorts in a row. -/
theorem stableSort_append {ι : Type} (B : ι → ι → Bool) (l r : List ι) (h : ∀ a ∈ l, ∀ b ∈ r, B b a = false) :
    stableSort B (l ++ r) = stableSort B l ++ stableSort B r := by
  induction l with
  | nil => rfl
  | cons a l ih =>
    show insertBefore B a (stableSort B (l ++ r)) = insertBefore B a (stableSort B l) ++ stableSort B r
    rw [ih fun a ha => h a (List.mem_cons_of_mem _ ha)]
    exact insertBefore_append B a _ _ fun b hb =>
      h a List.mem_cons_self b ((perm_stableSort B r).mem_iff.mp hb)

/-- Inserting a renamed element into a renamed list. -/
theorem insertBefore_map {ι κ : Type} (B : κ → κ → Bool) (f : ι → κ) (a : ι) (l : List ι) :
    insertBefore B (f a) (l.map f) = (insertBefore (fun x y => B (f x) (f y)) a l).map f := by
  induction l with
  | nil => rfl
  | cons b l ih =>
    show insertBefore B (f a) (f b :: l.map f) = _
    unfold insertBefore
    split
    · rw [ih]; rfl
    · rfl

/-- Sorting commutes with renaming the elements. -/
theorem stableSort_map {ι κ : Type} (B : κ → κ → Bool) (f : ι → κ) (l : List ι) :
    stableSort B (l.map f) = (stableSort (fun x y => B (f x) (f y)) l).map f := by
  induction l with
  | nil => rfl
  | cons a l ih =>
    show insertBefore B (f a) (stableSort B (l.map f)) = _
    rw [ih]
    exact insertBefore_map B f a _

/-- The positions below `n + p` are those below `n` and the `p` that follow. -/
theorem finRange_add (n p : Nat) :
    List.finRange (n + p) = (List.finRange n).map (Fin.castAdd p) ++ (List.finRange p).map (Fin.natAdd n) := by
  rw [← List.ofFn_id, ← List.ofFn_id, ← List.ofFn_id, List.ofFn_add, List.map_ofFn, List.map_ofFn]
  rfl

/-- A row of `n + p` keys whose last `p` never come before the first `n`: the sort's first `n` positions are the sort of
the first `n` keys, whatever order-equivalent comparison `B'` that one is written with. -/
theorem sortedFrom_castAdd {n p : Nat} (B : Fin (n + p) → Fin (n + p) → Bool) (B' : Fin n → Fin n → Bool)
    (heq : ∀ k k', B (Fin.castAdd p k) (Fin.castAdd p k') = B' k k')
    (hpad : ∀ k k', B (Fin.natAdd n k') (Fin.castAdd p k) = false) (i : Fin n) :
    sortedFrom B (Fin.castAdd p i) = Fin.castAdd p (sortedFrom B' i) := by
  have hs : sortPositions (n + p) B
      = (sortPositions n B').map (Fin.castAdd p) ++ stableSort B ((List.finRange p).map (Fin.natAdd n)) := by
    unfold sortPositions
    rw [finRange_add, stableSort_append, stableSort_map]
    · rw [show (fun x y => B (Fin.castAdd p x) (Fin.castAdd p y)) = B' from funext fun k => funext fun k' => heq k k']
    · intro a ha b hb
      obtain ⟨k, -, rfl⟩ := List.mem_map.mp ha
      obtain ⟨k', -, rfl⟩ := List.mem_map.mp hb
      exact hpad k k'
  unfold sortedFrom
  rw [List.get_of_eq hs]
  simp only [List.get_eq_getElem, Fin.val_cast, Fin.val_castAdd]
  rw [List.getElem_append_left (by simp [length_sortPositions]), List.getElem_map]

end Cert.TopRows

end
-- ==== Proof.TopK.lean ====
module

public import proofs.«01_k».proof.Proof.SortLink
public import Idealize.ShloMosaic.PureOps.ShapeOps
public import Idealize.ShloMosaic.Lib.Pointwise.Index

/-! # The first positions of a padded row

The indices that a top-k of the rows of a matrix returns, read at a place, and their agreement for a matrix and a wider one
whose additional columns are never greater. -/

@[expose] public section

namespace Cert.TopRows

open Idealize.ShloMosaic

/-- The `r`-th index of the top-k of row `i` is the position that a stable sort of the row, greater first, puts at `r`. -/
theorem topK_index {α : Type} {m n k : ℕ} (gt : α → α → BitVec 1) (x : (⟨2, ![m, n]⟩ : Shape).Idx → α)
    (h : (⟨2, ![m, n]⟩ : Shape).Slices (fun _ => 0) ⟨2, ![m, k]⟩) (i : Fin m) (r : Fin k) (hr : r.val < n) :
    (Host.topK ⟨2, ![m, k]⟩ 1 gt x h).2 (ix2 i r)
      = BitVec.ofNat 32 (sortedFrom (fun a b : Fin n => gt (x (ix2 i a)) (x (ix2 i b)) == 1#1) ⟨r.val, hr⟩).val := by
  have place : ∀ g : (⟨2, ![m, n]⟩ : Shape).Idx, g 0 = i → ∀ a : Fin n,
      Shape.Idx.along (s := ⟨2, ![m, n]⟩) g 1 a = ix2 i a := by
    intro g hg a
    funext c
    match c with
    | ⟨0, _⟩ => exact hg
    | ⟨1, _⟩ => rfl
  unfold Host.topK Host.sort2 extractStridedSlice
  dsimp only
  have h1 : (1 : ℕ) < (⟨2, ![m, n]⟩ : Shape).rank := Nat.one_lt_two
  rw [dif_pos h1]
  generalize hj : (fun a : Fin (⟨2, ![m, n]⟩ : Shape).rank => _) = j
  have hj0 : j 0 = i := by rw [← hj]; exact Fin.ext (Nat.zero_add _)
  have hj1 : j 1 = (⟨r.val, hr⟩ : Fin n) := by rw [← hj]; exact Fin.ext (Nat.zero_add _)
  dsimp only
  rw [dif_pos h1]
  unfold iotaInDim
  congr 2
  have hB : (fun a b : Fin n => gt (x (Shape.Idx.along (s := ⟨2, ![m, n]⟩) j 1 a)) (x (Shape.Idx.along (s := ⟨2, ![m, n]⟩) j 1 b)) == 1#1)
      = fun a b => gt (x (ix2 i a)) (x (ix2 i b)) == 1#1 := by
    funext a b
    exact congrArg₂ (fun u v => gt (x u) (x v) == 1#1) (place j hj0 a) (place j hj0 b)
  exact (Function.update_self _ _ _).trans (congrArg₂ (fun B q => sortedFrom (n := n) B q) hB hj1)

/-- The top-k indices of the rows of a matrix `x` with `p` columns more than `y` are those of `y`, when the comparisons among
    the first columns agree and no additional column is greater than one of the first; and each is the number of a column of `y`. -/
theorem topK_index_pad {α : Type} {m n p k : ℕ} (gt : α → α → BitVec 1) (x : (⟨2, ![m, n + p]⟩ : Shape).Idx → α)
    (y : (⟨2, ![m, n]⟩ : Shape).Idx → α) (hx : (⟨2, ![m, n + p]⟩ : Shape).Slices (fun _ => 0) ⟨2, ![m, k]⟩)
    (hy : (⟨2, ![m, n]⟩ : Shape).Slices (fun _ => 0) ⟨2, ![m, k]⟩) (hk : k ≤ n)
    (heq : ∀ i a b, gt (x (ix2 i (Fin.castAdd p a))) (x (ix2 i (Fin.castAdd p b))) = gt (y (ix2 i a)) (y (ix2 i b)))
    (hpad : ∀ i a b, gt (x (ix2 i (Fin.natAdd n a))) (x (ix2 i (Fin.castAdd p b))) = 0#1) :
    (Host.topK ⟨2, ![m, k]⟩ 1 gt x hx).2 = (Host.topK ⟨2, ![m, k]⟩ 1 gt y hy).2
      ∧ ∀ i r, ∃ a : Fin n, (Host.topK ⟨2, ![m, k]⟩ 1 gt y hy).2 (ix2 i r) = BitVec.ofNat 32 a.val := by
  have at_ : ∀ (i : Fin m) (r : Fin k), (Host.topK ⟨2, ![m, k]⟩ 1 gt x hx).2 (ix2 i r) = (Host.topK ⟨2, ![m, k]⟩ 1 gt y hy).2 (ix2 i r) := by
    intro i r
    have hr : r.val < n := r.isLt.trans_le hk
    refine (topK_index gt x hx i r (hr.trans_le (Nat.le_add_right n p))).trans (Eq.trans ?_ (topK_index gt y hy i r hr).symm)
    congr 1
    have e := sortedFrom_castAdd (fun a b => gt (x (ix2 i a)) (x (ix2 i b)) == 1#1)
      (fun a b => gt (y (ix2 i a)) (y (ix2 i b)) == 1#1) (fun a b => by rw [heq]) (fun b a => by rw [hpad]; rfl) ⟨r.val, hr⟩
    exact congrArg Fin.val e
  refine ⟨?_, fun i r => ⟨_, topK_index gt y hy i r (r.isLt.trans_le hk)⟩⟩
  funext j
  rw [eq_ix2 j]
  exact at_ _ _

end Cert.TopRows

end
-- ==== Proof.Neighbours.lean ====
module

public import proofs.«01_k».proof.Proof.KernelRun
public import proofs.«01_k».proof.Proof.TopK

/-! # The two programs choose the same neighbours

On one query the reference's score is twice the kernel's less a constant, so they order the training rows alike, and a padded
column comes after every training row; hence the same 75 indices in the same order. -/

@[expose] public section

set_option maxRecDepth 16384

noncomputable section

namespace Cert.TopRows

open Idealize.ShloMosaic

/-- Real scores compare alike before and after doubling and subtracting a constant. -/
theorem compare_scores (s s' u : ℝ) :
    (FloatOps.cmpfTotal (F := Ideal) (φ := .f32) .gt ((s : ℝ) : EReal) ((s' : ℝ) : EReal))
      = FloatOps.cmpfTotal (F := Ideal) (φ := .f32) .gt ((2 * s - u - 1 : ℝ) : EReal) ((2 * s' - u - 1 : ℝ) : EReal) := by
  show BitVec.ofBool (decide _) = BitVec.ofBool (decide _)
  congr 1
  rw [decide_eq_decide, EReal.coe_lt_coe_iff, EReal.coe_lt_coe_iff]
  constructor <;> intro h <;> linarith

section

open Cert.ReferenceIdeal Cert.ReferenceIdeal.Value

variable (V0 : Valuation τ sig (Elt Ideal)) (a : Fin 1024 → Fin 512 → ℝ) (b : Fin 100000 → Fin 512 → ℝ)

/-- The indices of the largest entries of the kernel's matrix of scores are the reference's indices of the nearest rows, and
    each of them is the number of a training row. -/
theorem same_indices
    (ha : ∀ i k, Ideal.div (queries V0 (ix2 i k)) (Ideal.sqrt (∑ l, queries V0 (ix2 i l) * queries V0 (ix2 i l))) = ((a i k : ℝ) : EReal))
    (hb : ∀ j k, Ideal.div (rows V0 (ix2 j k)) (Ideal.sqrt (∑ l, rows V0 (ix2 j l) * rows V0 (ix2 j l))) = ((b j k : ℝ) : EReal))
    (ha1 : ∀ i, inner (a i) (a i) ≤ 1) (hb1 : ∀ j, inner (b j) (b j) = 1) :
    kernelIndices (scoreMatrix a b) = (res_main_indices (F := Ideal) V0 : IVec S1024x75 32)
      ∧ ∀ i r, ∃ k : Fin 100000, (res_main_indices (F := Ideal) V0 : IVec S1024x75 32) (ix2 i r) = BitVec.ofNat 32 k.val := by
  have hs : ∀ (i : Fin 1024) (j : Fin 100000), scoreMatrix a b (ix2 i (Fin.castAdd 352 j)) = ((inner (a i) (b j) : ℝ) : EReal) :=
    fun i j => scoreMatrix_row a b i (Fin.castAdd 352 j) j.isLt
  have hp : ∀ (i : Fin 1024) (p : Fin 352), scoreMatrix a b (ix2 i (Fin.natAdd 100000 p)) = Ideal.ofBits .f32 0xF149F2CA#32 :=
    fun i p => scoreMatrix_pad a b i (Fin.natAdd 100000 p) (Nat.not_lt.mpr (Nat.le_add_right _ _))
  refine topK_index_pad (m := 1024) (n := 100000) (p := 352) (k := 75) (FloatOps.cmpfTotal (F := Ideal) (φ := .f32) .gt)
    (scoreMatrix a b) (res_main_v28 (F := Ideal) V0) _ _ (by norm_num) ?_ ?_
  · intro i j j'
    refine (congrArg₂ _ (hs i j) (hs i j')).trans ((compare_scores _ _ (inner (a i) (a i))).trans (Eq.symm ?_))
    refine congrArg₂ _ ((reference_score V0 a b ha hb i j).trans ?_) ((reference_score V0 a b ha hb i j').trans ?_)
    · rw [hb1]
    · rw [hb1]
  · intro i p j
    obtain ⟨r, hr, e⟩ := ofBits_pad
    refine (congrArg₂ _ ((hp i p).trans e) (hs i j)).trans ?_
    show BitVec.ofBool (decide _) = _
    rw [decide_eq_false]
    · rfl
    · rw [EReal.coe_lt_coe_iff]
      have := neg_one_le_inner (a i) (b j) (ha1 i) (hb1 j).le
      linarith

end

end Cert.TopRows

end

end
-- ==== Proof.Precondition.lean ====
module

public import proofs.«01_k».proof.Defs
public import proofs.«01_k».proof.Proof.Scores
public import proofs.«01_k».proof.Proof.Gen.Pre_usual_rows

/-! # The precondition

What the precondition says of the arguments, element by element. -/

@[expose] public section

set_option maxRecDepth 16384

noncomputable section

namespace Cert.TopRows

open Idealize.ShloMosaic Idealize.ShloMosaic.TcCoe Idealize.SL.Sem
open Cert.Pre_usual_rows

/-- A comparison that came out true. -/
theorem of_ofBool (P : Prop) [Decidable P] (h : BitVec.ofBool (decide P) = 1#1) : P := by
  by_contra hn
  rw [decide_eq_false hn] at h
  exact absurd h (by decide)

variable (q : FVec Ideal S1024x512 .f32) (t : FVec Ideal S100000x512 .f32) (l : IVec S100000 32)

/-- No query is zero: the sum of its squares is positive. -/
theorem pre_queries (h : (fn (F := Ideal) q t l).1 = fun _ => 1#1) (i : Fin 1024) : 0 < ∑ k, q (ix2 i k) * q (ix2 i k) := by
  have e := congrFun h (ix1 i)
  simp only [fn] at e
  revert e
  pointwise
  intro e
  exact of_ofBool _ e

/-- Every entry of the training matrix is finite. -/
theorem pre_finite (h : (fn (F := Ideal) q t l).2.1 = fun _ => 1#1) (j : Fin 100000) (k : Fin 512) :
    max (t (ix2 j k)) (-(t (ix2 j k))) < ⊤ := by
  have e := congrFun h (ix2 j k)
  simp only [fn] at e
  revert e
  pointwise
  intro e
  rw [← ofBits_inf]
  exact of_ofBool _ e

/-- The sum of the squares of a training row is not below the kernel's floor. -/
theorem pre_floor (h : (fn (F := Ideal) q t l).2.2.1 = fun _ => 1#1) (j : Fin 100000) :
    Ideal.ofBits .f32 0x0DA24260#32 ≤ ∑ k, t (ix2 j k) * t (ix2 j k) := by
  have e := congrFun h (ix1 j)
  simp only [fn] at e
  revert e
  pointwise
  intro e
  exact of_ofBool _ e

/-- Every label is a class. -/
theorem pre_labels (h : (fn (F := Ideal) q t l).2.2.2.1 = fun _ => 1#1) (h' : (fn (F := Ideal) q t l).2.2.2.2 = fun _ => 1#1) (j : Fin 100000) :
    (l (ix1 j)).toNat < 10 := by
  have e := congrFun h (ix1 j)
  have e' := congrFun h' (ix1 j)
  simp only [fn] at e e'
  revert e e'
  pointwise
  word_omega

end Cert.TopRows

end

end
-- ==== Proof.Equation.lean ====
module

public import proofs.«01_k».proof.Proof.Neighbours
public import proofs.«01_k».proof.Proof.Precondition

/-! # The two results are equal

On arguments that meet the precondition, the array the kernel returns is the array the reference returns. -/

@[expose] public section

set_option maxRecDepth 16384

noncomputable section

namespace Cert.TopRows

open Idealize.ShloMosaic Idealize.ShloMosaic.TcCoe Idealize.SL.Sem

section Reference

open Cert.ReferenceIdeal Cert.ReferenceIdeal.Value

variable (V0 : Valuation τ sig (Elt Ideal))

/-- The reference's labels. -/
abbrev refLabels : IVec S100000 32 := V0 (Proc.devRef .tc main_arg2)

/-- The reference's counts are the histogram of the labels at its indices. -/
theorem reference_histogram :
    (res_main_v31 (F := Ideal) V0 : IVec S1024x10 32) = histogram (refLabels V0) (res_main_indices (F := Ideal) V0) := rfl

/-- What the reference returns. -/
def referenceResult : FVec Ideal S1024x10 .f32 :=
  sitofp .f32 (subi (total (res_main_v31 (F := Ideal) V0)) (res_main_v31 (F := Ideal) V0))

/-- From unit rows, the result computed from the kernel's matrix of scores is the reference's. -/
theorem results_eq (a : Fin 1024 → Fin 512 → ℝ) (b : Fin 100000 → Fin 512 → ℝ)
    (ha : ∀ i k, Ideal.div (queries V0 (ix2 i k)) (Ideal.sqrt (∑ l, queries V0 (ix2 i l) * queries V0 (ix2 i l))) = ((a i k : ℝ) : EReal))
    (hb : ∀ j k, Ideal.div (rows V0 (ix2 j k)) (Ideal.sqrt (∑ l, rows V0 (ix2 j l) * rows V0 (ix2 j l))) = ((b j k : ℝ) : EReal))
    (ha1 : ∀ i, inner (a i) (a i) ≤ 1) (hb1 : ∀ j, inner (b j) (b j) = 1) (hl : ∀ j, (refLabels V0 (ix1 j)).toNat < 10) :
    kernelResult (scoreMatrix a b) (refLabels V0) = referenceResult V0 := by
  obtain ⟨hi, hk⟩ := same_indices V0 a b ha hb ha1 hb1
  choose k hk using hk
  unfold kernelResult referenceResult
  rw [hi, reference_histogram]
  refine congrArg (sitofp .f32) ?_
  have hm := congrArg (fun idx => subi (broadcastInDim S1024x10 ![] Cert.KernelIdeal.Gen.bcast_S_S1024x10 (constantI S_ 32 75#32))
    (histogram (refLabels V0) idx)) (min_last (res_main_indices (F := Ideal) V0) k hk)
  exact hm.trans (sub_total (refLabels V0) (res_main_indices (F := Ideal) V0) k hk hl Cert.KernelIdeal.Gen.bcast_S_S1024x10)

end Reference

section Kernel

open Cert.KernelIdeal Cert.KernelIdeal.Gen

variable (m : (ℓ : Loc nD τ sig) → Buf (Elt Ideal) ℓ) (c : Dev nD)

/-- On arguments that meet the precondition, what the kernel returns is what the reference returns from equal arguments. -/
theorem kernel_eq_reference (h : Cert.Pre_KernelIdeal_usual_rows m)
    (V0 : Valuation Cert.ReferenceIdeal.τ Cert.ReferenceIdeal.sig (Elt Ideal))
    (h0 : queries V0 = kQueries m c) (h1 : rows V0 = kRows m c) (h2 : refLabels V0 = kLabels m c) :
    kernelResult ((dats m 0 c).arrAt 2 cfg0.N) (kLabels m c) = referenceResult V0 := by
  obtain ⟨p0, p1, p2, p3, p4⟩ := h c
  have hf := pre_floor _ _ _ p2
  have hq := fun i => exists_shortRow (fun k => kQueries m c (ix2 i k)) (pre_queries _ _ _ p0 i)
  have ht := fun j => exists_unitRow (fun k => kRows m c (ix2 j k)) (fun k => coe_toReal_of_abs_lt _ (pre_finite _ _ _ p1 j k))
    (ofBits_floor_pos.trans_le (hf j))
  choose a ha ha1 using hq
  choose b hb hb1 using ht
  rw [scores_final m c a b ha fun j k => by rw [max_eq_left (hf j)]; exact hb j k]
  rw [← h2]
  exact results_eq V0 a b (by rw [h0]; exact ha) (by rw [h1]; exact hb) ha1 hb1 (by rw [h2]; exact pre_labels _ _ _ p3 p4)

end Kernel

end Cert.TopRows

end

end
-- ==== Proof.lean ====
/- The claims of this kernel, assembled: the frames of the kernel, of its reading over the extended reals and of the reference,
   that the reading preserves the kernel, and that the kernel and the reference return equal arrays on arguments that meet the
   precondition `usual_rows`. The mathematics is in the modules under Proof/: Rows (unit rows), Scores (the two programs'
   scores), SortLink and TopK (the largest entries of a padded row), Array (the kernel's matrix of scores), Histogram (the counts
   of the labels), KernelRun, Neighbours, Precondition and Equation. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Gen.Pre_usual_rows
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

/-- The reference's run terminates, leaves its arguments unchanged and every semaphore counter at zero. -/
theorem frame_reference : Cert.quiescent_ReferenceIdeal := by
  intro m g _
  exact (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- On arguments that meet the precondition the kernel and the reference, run from equal arguments, return equal arrays. -/
theorem equal_results : Cert.algebraic_KernelIdeal_ReferenceIdeal_pre_usual_rows := by
  intro m g m' g' hpre hargs
  refine ⟨_, Cert.TopRows.kernel_run m g, (θ_run Cert.ReferenceIdeal.defs _ _).mono (fun r h c => ⟨?_, (h c).2⟩)
    (Cert.ReferenceIdeal.Value.run (F := Ideal) m' g')⟩
  obtain ⟨h0, h1, h2⟩ := hargs c
  exact (h c).1.trans (Cert.TopRows.kernel_eq_reference m c hpre (StableHlo.launchContents m' c) h0 h1 h2).symm

/-- Everything claimed. -/
theorem claim : Cert.Claim :=
  ⟨Cert.Kernel.Gen.facts, Cert.KernelIdeal.Gen.facts, Cert.ReferenceIdeal.Gen.facts, Cert.Pre_usual_rows.Gen.facts,
    fun m g _ => Cert.Kernel.Gen.frame m g,
    fun m g _ => Cert.KernelIdeal.Gen.frame m g,
    fun m g _ => Cert.KernelIdeal.Gen.frame m g,
    frame_reference,
    fun m g _ => frame_reference m g trivial,
    trivial,
    equal_results⟩

end Cert.Proof

end
